-- ==== Defs.lean ====
def Pre_Kernel [hPre_attrs_in_range : Cert.Pre_attrs_in_range.Facts] (m : (ℓ : Loc Cert.Kernel.nD Cert.Kernel.τ Cert.Kernel.sig) → Buf (Elt Bits) ℓ) : Prop :=
  ∀ c : Dev Cert.Kernel.nD,
    (Cert.Pre_attrs_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_attrs_in_range : Cert.Pre_attrs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_attrs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attrs_in_range [hPre_attrs_in_range : Cert.Pre_attrs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attrs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_attrs_in_range [hPre_attrs_in_range : Cert.Pre_attrs_in_range.Facts] (m : (ℓ : Loc Cert.Reference.nD Cert.Reference.τ Cert.Reference.sig) → Buf (Elt Bits) ℓ) : Prop :=
  ∀ c : Dev Cert.Reference.nD,
    (Cert.Pre_attrs_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_attrs_in_range : Cert.Pre_attrs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_attrs_in_range : Cert.Pre_attrs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_attrs_in_range [hReferenceIdeal : Cert.ReferenceIdeal.Facts] [hPre_attrs_in_range : Cert.Pre_attrs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attrs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_attrs_in_range [hReference : Cert.Reference.Facts] [hPre_attrs_in_range : Cert.Pre_attrs_in_range.Facts] : Prop :=
  ∀ (m : (ℓ : Loc Cert.Reference.nD Cert.Reference.τ Cert.Reference.sig) → Buf (Elt Bits) ℓ) (g : Dev Cert.Reference.nD → PrngReg), Pre_Reference_attrs_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_attrs_in_range : Cert.Pre_attrs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_cst_43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_attrs_in_range : Cert.Pre_attrs_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)) (v1 : (c : Dev Cert.Kernel.nD) → Buf (Elt Bits) ((c.tc : Thread Cert.Kernel.nD Cert.Kernel.τ).loc Cert.Kernel.main_cst)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_cst) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v65) = v0 c
          ∧ r.2.mem ((c.tc : Thread Cert.Reference.nD Cert.Reference.τ).loc Cert.Reference.main_cst_43) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_attrs_in_range : Cert.Pre_attrs_in_range.Facts),
    quiescent_Kernel (hKernel := hKernel) (hPre_attrs_in_range := hPre_attrs_in_range)
    ∧ quiescent_KernelIdeal (hKernelIdeal := hKernelIdeal) (hPre_attrs_in_range := hPre_attrs_in_range)
    ∧ quiescent_ReferenceIdeal (hReferenceIdeal := hReferenceIdeal)
    ∧ quiescent_ReferenceIdeal_pre_attrs_in_range (hReferenceIdeal := hReferenceIdeal) (hPre_attrs_in_range := hPre_attrs_in_range)
    ∧ quiescent_Reference (hReference := hReference)
    ∧ quiescent_Reference_pre_attrs_in_range (hReference := hReference) (hPre_attrs_in_range := hPre_attrs_in_range)
    ∧ preserves_Kernel_KernelIdeal
    ∧ algebraic_KernelIdeal_ReferenceIdeal (hKernelIdeal := hKernelIdeal) (hReferenceIdeal := hReferenceIdeal) (hPre_attrs_in_range := hPre_attrs_in_range)
    ∧ bitexact_Kernel_Reference (hKernel := hKernel) (hReference := hReference) (hPre_attrs_in_range := hPre_attrs_in_range)
-- ==== Pre_attrs_in_range.lean ====
abbrev S8192x4096 : Shape := ⟨2, ![8192, 4096]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S8192x4096 .f32) (main_arg1 : IVec S2 32) : IVec S_ 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 1 := constantI S_ 1 1#1
  let main_v2 : IVec S_ 1 := (fun x v => Host.reduce IntOp.andi x v reducesTo_S2_S_d0 h_S_) main_v1 main_c_0
  let main_c_1 : IVec S_ 32 := constantI S_ 32 8#32
  let main_v3 : IVec S2 32 := broadcastInDim S2 ![] bcast_S_S2 main_c_1
  let main_v4 : IVec S2 1 := cmpi .slt main_arg1 main_v3
  let main_c_2 : IVec S_ 1 := constantI S_ 1 1#1
  let main_v5 : IVec S_ 1 := (fun x v => Host.reduce IntOp.andi x v reducesTo_S2_S_d0 h_S_) main_v4 main_c_2
  let main_v6 : IVec S_ 1 := andi main_v2 main_v5
  main_v6
-- ==== Kernel.lean ====
abbrev S8192x4096 : Shape := ⟨2, ![8192, 4096]⟩
abbrev S2 : Shape := ⟨1, ![2]⟩
abbrev S64 : Shape := ⟨1, ![64]⟩
abbrev S_ : Shape := ⟨0, ![]⟩
abbrev S1 : Shape := ⟨1, ![1]⟩

abbrev nBuf : Table → Nat
  | .hbm => 4
  | .local .scScalar .smem => 2
  | _ => 0

abbrev bufTy : (tb : Table) → Fin (nBuf tb) → BufTy
  | .hbm, ⟨0, _⟩ => ⟨S8192x4096, .f32⟩
  | .hbm, ⟨1, _⟩ => ⟨S2, .i32⟩
  | .hbm, ⟨2, _⟩ => ⟨S64, .f32⟩
  | .hbm, ⟨3, _⟩ => ⟨S_, .f32⟩
  | .local .scScalar .smem, ⟨0, _⟩ => ⟨S2, .i32⟩
  | .local .scScalar .smem, ⟨1, _⟩ => ⟨S64, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v129 : BitVec 32) (v132 : BitVec 32) (c0_i32_66 : BitVec 32) : Fin 1 → Nat :=
  let c8_i32_64 : BitVec 32 := 8#32
  let v130 : BitVec 32 := Scalar.muli v129 c8_i32_64
  let v133 : BitVec 32 := Scalar.addi v130 v132
  let c64_i32 : BitVec 32 := 64#32
  let v134 : BitVec 32 := Scalar.remsi v133 c64_i32
  let v135 : BitVec 32 := Scalar.addi v134 c0_i32_66
  let c64_i32_67 : BitVec 32 := 64#32
  let v136 : BitVec 32 := Scalar.remsi v135 c64_i32_67
  let v137 : Index := Scalar.indexCast v136
  ![v137.toNat]

def k0_chk1 (v129 : BitVec 32) (v132 : BitVec 32) : Prop :=
  (∀ (r : Fin 8), ∀ a, (k0_off1 v129 v132 (BitVec.ofNat 32 r.val)) a + S1.size a ≤ S64.size a)
theorem k0_off1_inb : ∀ (v129 : BitVec 32) (v132 : BitVec 32) (k0_hw1 : k0_chk1 v129 v132), ∀ (r : Fin 8), ∀ a, (k0_off1 v129 v132 (BitVec.ofNat 32 r.val)) a + S1.size a ≤ S64.size a := fun v129 v132 k0_hw1 r => k0_hw1 r

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8192x4096 : Shape := ⟨2, ![8192, 4096]⟩
abbrev S2 : Shape := ⟨1, ![2]⟩
abbrev S1 : Shape := ⟨1, ![1]⟩
abbrev S_ : Shape := ⟨0, ![]⟩
abbrev S64 : Shape := ⟨1, ![64]⟩

abbrev nBuf : Space → Nat
  | .hbm => 234
  | .vmem => 0
  | .smem => 0
  | _ => 0

abbrev hbmTy0_0 (i : Nat) : BufTy := match i % 128 with
  | 0 => ⟨S8192x4096, .f32⟩
  | 1 => ⟨S2, .i32⟩
  | 2 => ⟨S1, .i32⟩
  | 3 => ⟨S_, .i32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .f32⟩
  | 16 => ⟨S64, .f32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .f32⟩
  | 43 => ⟨S64, .f32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S_, .f32⟩
  | 70 => ⟨S64, .f32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i1⟩
  | 84 => ⟨S_, .i32⟩
  | 85 => ⟨S_, .i1⟩
  | 86 => ⟨S_, .i1⟩
  | 87 => ⟨S_, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S_, .f32⟩
  | 97 => ⟨S64, .f32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i1⟩
  | 111 => ⟨S_, .i32⟩
  | 112 => ⟨S_, .i1⟩
  | 113 => ⟨S_, .i1⟩
  | 114 => ⟨S_, .i1⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S_, .f32⟩
  | 124 => ⟨S64, .f32⟩
  | 125 => ⟨S_, .i32⟩
  | 126 => ⟨S_, .i32⟩
  | 127 => ⟨S_, .i32⟩
  | _ => ⟨S8192x4096, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i1⟩
  | 10 => ⟨S_, .i32⟩
  | 11 => ⟨S_, .i1⟩
  | 12 => ⟨S_, .i1⟩
  | 13 => ⟨S_, .i1⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S1, .i32⟩
  | 22 => ⟨S_, .f32⟩
  | 23 => ⟨S64, .f32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i1⟩
  | 37 => ⟨S_, .i32⟩
  | 38 => ⟨S_, .i1⟩
  | 39 => ⟨S_, .i1⟩
  | 40 => ⟨S_, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S1, .i32⟩
  | 49 => ⟨S_, .f32⟩
  | 50 => ⟨S64, .f32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i1⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1, .i32⟩
  | 76 => ⟨S_, .f32⟩
  | 77 => ⟨S64, .f32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i1⟩
  | 91 => ⟨S_, .i32⟩
  | 92 => ⟨S_, .i1⟩
  | 93 => ⟨S_, .i1⟩
  | 94 => ⟨S_, .i1⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S1, .i32⟩
  | 103 => ⟨S_, .f32⟩
  | 104 => ⟨S64, .f32⟩
  | 105 => ⟨S_, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_c_4 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_5 : Ref sig .tc := ⟨.hbm, 36, rfl⟩
abbrev main_v12 : Ref sig .tc := ⟨.hbm, 37, rfl⟩
abbrev main_c_6 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_7 : Ref sig .tc := ⟨.hbm, 42, rfl⟩
abbrev main_v16 : Ref sig .tc := ⟨.hbm, 43, rfl⟩
abbrev main_c_8 : Ref sig .tc := ⟨.hbm, 44, rfl⟩
abbrev main_v17 : Ref sig .tc := ⟨.hbm, 45, rfl⟩
abbrev main_c_9 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_c_1 : Ref sig .tc := ⟨.hbm, 53, rfl⟩
abbrev main_call1_v4 : Ref sig .tc := ⟨.hbm, 54, rfl⟩
abbrev main_call1_c_2 : Ref sig .tc := ⟨.hbm, 55, rfl⟩
abbrev main_call1_v5 : Ref sig .tc := ⟨.hbm, 56, rfl⟩
abbrev main_call1_c_3 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_v18 : Ref sig .tc := ⟨.hbm, 62, rfl⟩
abbrev main_c_10 : Ref sig .tc := ⟨.hbm, 63, rfl⟩
abbrev main_v19 : Ref sig .tc := ⟨.hbm, 64, rfl⟩
abbrev main_c_11 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_12 : Ref sig .tc := ⟨.hbm, 69, rfl⟩
abbrev main_v23 : Ref sig .tc := ⟨.hbm, 70, rfl⟩
abbrev main_c_13 : Ref sig .tc := ⟨.hbm, 71, rfl⟩
abbrev main_v24 : Ref sig .tc := ⟨.hbm, 72, rfl⟩
abbrev main_c_14 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_c_1 : Ref sig .tc := ⟨.hbm, 80, rfl⟩
abbrev main_call2_v4 : Ref sig .tc := ⟨.hbm, 81, rfl⟩
abbrev main_call2_c_2 : Ref sig .tc := ⟨.hbm, 82, rfl⟩
abbrev main_call2_v5 : Ref sig .tc := ⟨.hbm, 83, rfl⟩
abbrev main_call2_c_3 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_v25 : Ref sig .tc := ⟨.hbm, 89, rfl⟩
abbrev main_c_15 : Ref sig .tc := ⟨.hbm, 90, rfl⟩
abbrev main_v26 : Ref sig .tc := ⟨.hbm, 91, rfl⟩
abbrev main_c_16 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_cst_17 : Ref sig .tc := ⟨.hbm, 96, rfl⟩
abbrev main_v30 : Ref sig .tc := ⟨.hbm, 97, rfl⟩
abbrev main_c_18 : Ref sig .tc := ⟨.hbm, 98, rfl⟩
abbrev main_v31 : Ref sig .tc := ⟨.hbm, 99, rfl⟩
abbrev main_c_19 : Ref sig .tc := ⟨.hbm, 100, rfl⟩
abbrev main_call3_v0 : Ref sig .tc := ⟨.hbm, 101, rfl⟩
abbrev main_call3_c : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_c_1 : Ref sig .tc := ⟨.hbm, 107, rfl⟩
abbrev main_call3_v4 : Ref sig .tc := ⟨.hbm, 108, rfl⟩
abbrev main_call3_c_2 : Ref sig .tc := ⟨.hbm, 109, rfl⟩
abbrev main_call3_v5 : Ref sig .tc := ⟨.hbm, 110, rfl⟩
abbrev main_call3_c_3 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_v32 : Ref sig .tc := ⟨.hbm, 116, rfl⟩
abbrev main_c_20 : Ref sig .tc := ⟨.hbm, 117, rfl⟩
abbrev main_v33 : Ref sig .tc := ⟨.hbm, 118, rfl⟩
abbrev main_c_21 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_cst_22 : Ref sig .tc := ⟨.hbm, 123, rfl⟩
abbrev main_v37 : Ref sig .tc := ⟨.hbm, 124, rfl⟩
abbrev main_c_23 : Ref sig .tc := ⟨.hbm, 125, rfl⟩
abbrev main_v38 : Ref sig .tc := ⟨.hbm, 126, rfl⟩
abbrev main_c_24 : Ref sig .tc := ⟨.hbm, 127, rfl⟩
abbrev main_call4_v0 : Ref sig .tc := ⟨.hbm, 128, rfl⟩
abbrev main_call4_c : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_c_1 : Ref sig .tc := ⟨.hbm, 134, rfl⟩
abbrev main_call4_v4 : Ref sig .tc := ⟨.hbm, 135, rfl⟩
abbrev main_call4_c_2 : Ref sig .tc := ⟨.hbm, 136, rfl⟩
abbrev main_call4_v5 : Ref sig .tc := ⟨.hbm, 137, rfl⟩
abbrev main_call4_c_3 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_v39 : Ref sig .tc := ⟨.hbm, 143, rfl⟩
abbrev main_c_25 : Ref sig .tc := ⟨.hbm, 144, rfl⟩
abbrev main_v40 : Ref sig .tc := ⟨.hbm, 145, rfl⟩
abbrev main_c_26 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_cst_27 : Ref sig .tc := ⟨.hbm, 150, rfl⟩
abbrev main_v44 : Ref sig .tc := ⟨.hbm, 151, rfl⟩
abbrev main_c_28 : Ref sig .tc := ⟨.hbm, 152, rfl⟩
abbrev main_v45 : Ref sig .tc := ⟨.hbm, 153, rfl⟩
abbrev main_c_29 : Ref sig .tc := ⟨.hbm, 154, rfl⟩
abbrev main_call5_v0 : Ref sig .tc := ⟨.hbm, 155, rfl⟩
abbrev main_call5_c : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_c_1 : Ref sig .tc := ⟨.hbm, 161, rfl⟩
abbrev main_call5_v4 : Ref sig .tc := ⟨.hbm, 162, rfl⟩
abbrev main_call5_c_2 : Ref sig .tc := ⟨.hbm, 163, rfl⟩
abbrev main_call5_v5 : Ref sig .tc := ⟨.hbm, 164, rfl⟩
abbrev main_call5_c_3 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_v46 : Ref sig .tc := ⟨.hbm, 170, rfl⟩
abbrev main_c_30 : Ref sig .tc := ⟨.hbm, 171, rfl⟩
abbrev main_v47 : Ref sig .tc := ⟨.hbm, 172, rfl⟩
abbrev main_c_31 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_cst_32 : Ref sig .tc := ⟨.hbm, 177, rfl⟩
abbrev main_v51 : Ref sig .tc := ⟨.hbm, 178, rfl⟩
abbrev main_c_33 : Ref sig .tc := ⟨.hbm, 179, rfl⟩
abbrev main_v52 : Ref sig .tc := ⟨.hbm, 180, rfl⟩
abbrev main_c_34 : Ref sig .tc := ⟨.hbm, 181, rfl⟩
abbrev main_call6_v0 : Ref sig .tc := ⟨.hbm, 182, rfl⟩
abbrev main_call6_c : Ref sig .tc := ⟨.hbm, 183, rfl⟩
abbrev main_call6_v1 : Ref sig .tc := ⟨.hbm, 184, rfl⟩
abbrev main_call6_c_0 : Ref sig .tc := ⟨.hbm, 185, rfl⟩
abbrev main_call6_v2 : Ref sig .tc := ⟨.hbm, 186, rfl⟩
abbrev main_call6_v3 : Ref sig .tc := ⟨.hbm, 187, rfl⟩
abbrev main_call6_c_1 : Ref sig .tc := ⟨.hbm, 188, rfl⟩
abbrev main_call6_v4 : Ref sig .tc := ⟨.hbm, 189, rfl⟩
abbrev main_call6_c_2 : Ref sig .tc := ⟨.hbm, 190, rfl⟩
abbrev main_call6_v5 : Ref sig .tc := ⟨.hbm, 191, rfl⟩
abbrev main_call6_c_3 : Ref sig .tc := ⟨.hbm, 192, rfl⟩
abbrev main_call6_v6 : Ref sig .tc := ⟨.hbm, 193, rfl⟩
abbrev main_call6_v7 : Ref sig .tc := ⟨.hbm, 194, rfl⟩
abbrev main_call6_v8 : Ref sig .tc := ⟨.hbm, 195, rfl⟩
abbrev main_call6_v9 : Ref sig .tc := ⟨.hbm, 196, rfl⟩
abbrev main_v53 : Ref sig .tc := ⟨.hbm, 197, rfl⟩
abbrev main_c_35 : Ref sig .tc := ⟨.hbm, 198, rfl⟩
abbrev main_v54 : Ref sig .tc := ⟨.hbm, 199, rfl⟩
abbrev main_c_36 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_cst_37 : Ref sig .tc := ⟨.hbm, 204, rfl⟩
abbrev main_v58 : Ref sig .tc := ⟨.hbm, 205, rfl⟩
abbrev main_c_38 : Ref sig .tc := ⟨.hbm, 206, rfl⟩
abbrev main_v59 : Ref sig .tc := ⟨.hbm, 207, rfl⟩
abbrev main_c_39 : Ref sig .tc := ⟨.hbm, 208, rfl⟩
abbrev main_call7_v0 : Ref sig .tc := ⟨.hbm, 209, rfl⟩
abbrev main_call7_c : Ref sig .tc := ⟨.hbm, 210, rfl⟩
abbrev main_call7_v1 : Ref sig .tc := ⟨.hbm, 211, rfl⟩
abbrev main_call7_c_0 : Ref sig .tc := ⟨.hbm, 212, rfl⟩
abbrev main_call7_v2 : Ref sig .tc := ⟨.hbm, 213, rfl⟩
abbrev main_call7_v3 : Ref sig .tc := ⟨.hbm, 214, rfl⟩
abbrev main_call7_c_1 : Ref sig .tc := ⟨.hbm, 215, rfl⟩
abbrev main_call7_v4 : Ref sig .tc := ⟨.hbm, 216, rfl⟩
abbrev main_call7_c_2 : Ref sig .tc := ⟨.hbm, 217, rfl⟩
abbrev main_call7_v5 : Ref sig .tc := ⟨.hbm, 218, rfl⟩
abbrev main_call7_c_3 : Ref sig .tc := ⟨.hbm, 219, rfl⟩
abbrev main_call7_v6 : Ref sig .tc := ⟨.hbm, 220, rfl⟩
abbrev main_call7_v7 : Ref sig .tc := ⟨.hbm, 221, rfl⟩
abbrev main_call7_v8 : Ref sig .tc := ⟨.hbm, 222, rfl⟩
abbrev main_call7_v9 : Ref sig .tc := ⟨.hbm, 223, rfl⟩
abbrev main_v60 : Ref sig .tc := ⟨.hbm, 224, rfl⟩
abbrev main_c_40 : Ref sig .tc := ⟨.hbm, 225, rfl⟩
abbrev main_v61 : Ref sig .tc := ⟨.hbm, 226, rfl⟩
abbrev main_c_41 : Ref sig .tc := ⟨.hbm, 227, rfl⟩
abbrev main_v62 : Ref sig .tc := ⟨.hbm, 228, rfl⟩
abbrev main_v63 : Ref sig .tc := ⟨.hbm, 229, rfl⟩
abbrev main_v64 : Ref sig .tc := ⟨.hbm, 230, rfl⟩
abbrev main_cst_42 : Ref sig .tc := ⟨.hbm, 231, rfl⟩
abbrev main_v65 : Ref sig .tc := ⟨.hbm, 232, rfl⟩
abbrev main_cst_43 : Ref sig .tc := ⟨.hbm, 233, rfl⟩

abbrev nD : Nat := 1
abbrev τ : Topo := Topo.v7x

variable {F : FTy → Type} [FloatOps F]
-- ==== Proof.Gate.lean ====
/-
  The gate vector. Two attribute words `a₀, a₁`, each below 8, name one of the 64 experts, number `8 · a₀ + a₁`; that
  expert and the seven after it, counted round the end of the list, share the gate equally. So the vector holds the float
  word of 1/8 at those eight places and the zero word at the other fifty-six. Here is that vector over any float values,
  and the arithmetic of the words that compute the eight places: nothing wraps and nothing is negative, so each chain of
  32-bit operations computes the natural number it spells.
-/
module

public import Idealize.ShloMosaic.Lib.Affine
public import Idealize.ShloMosaic.Lib.ValueIdxCore
public import Idealize.ShloMosaic.Lib.Routing.OpsPair

@[expose] public section

noncomputable section

namespace Cert.Proof.Gate

open Idealize.ShloMosaic

/-- The attribute words, as the array holds them. -/
def word (a : (⟨1, ![2]⟩ : Shape).Idx → BitVec 32) (k : Fin 2) : BitVec 32 := a (ValueIdx.ix1 k)

/-- The precondition in numbers: each attribute is below 8. -/
def InRange (a : (⟨1, ![2]⟩ : Shape).Idx → BitVec 32) : Prop := ∀ k, (word a k).toNat < 8

/-- The expert `i` places after the one the attributes name. -/
def hot (a : (⟨1, ![2]⟩ : Shape).Idx → BitVec 32) (i : Nat) : Nat := (8 * (word a 0).toNat + (word a 1).toNat + i) % 64

theorem hot_lt (a : (⟨1, ![2]⟩ : Shape).Idx → BitVec 32) (i : Nat) : hot a i < 64 := Nat.mod_lt _ (by decide)

/-- The gate vector with its first `n` places marked. -/
def gateUpTo {F : FTy → Type} [FloatOps F] (a : (⟨1, ![2]⟩ : Shape).Idx → BitVec 32) : Nat → (⟨1, ![64]⟩ : Shape).Idx → F .f32
  | 0 => fun _ => Scalar.ofBits .f32 0x00000000#32
  | n + 1 => fun j => if (j 0).val = hot a n then Scalar.ofBits .f32 0x3E000000#32 else gateUpTo a n j

/-- The gate vector: all eight places marked. -/
def gate {F : FTy → Type} [FloatOps F] (a : (⟨1, ![2]⟩ : Shape).Idx → BitVec 32) : (⟨1, ![64]⟩ : Shape).Idx → F .f32 := gateUpTo a 8

/-! ## The words -/

/-- A remainder by 64 of a word that is not negative. -/
theorem toNat_rem64 (u : ArithUnit) {x : BitVec 32} {n : Nat} (hx : x.toNat = n) (hn : n < 2 ^ 31) :
    (IntOp.remsi u x 64#32).toNat = n % 64 := by
  subst hx
  exact IntOp.toNat_remsi u (by omega) 64 (by decide) (by decide)

/-- A sum of words that does not wrap. -/
theorem toNat_sum {x y : BitVec 32} {n k : Nat} (hx : x.toNat = n) (hy : y.toNat = k) (h : n + k < 2 ^ 32) : (x + y).toNat = n + k := by
  rw [BitVec.toNat_add, hx, hy, Nat.mod_eq_of_lt h]

/-- A product of words that does not wrap. -/
theorem toNat_prod {x y : BitVec 32} {n k : Nat} (hx : x.toNat = n) (hy : y.toNat = k) (h : n * k < 2 ^ 32) : (x * y).toNat = n * k := by
  rw [BitVec.toNat_mul, hx, hy, Nat.mod_eq_of_lt h]

end Cert.Proof.Gate

end
-- ==== Proof.Setup.lean ====
/-
  What the launch theorem is told about the gate kernel's program (KernelIdeal, over any float values): the call's
  configuration, the resource algebra, and the memory the call works on. One SparseCore call, run by the scalar
  subcore of SparseCore 0 alone; it reads `attrs` and fills the gate vector, so those two arrays travel to the
  sequencer and back, and the vector comes back at a value (`gate`, Gate.lean) computed from `attrs`.
-/
module

public import proofs.«01_k».proof.KernelIdeal
public import proofs.«01_k».proof.Proof.Gate
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program -/

abbrev ΛP : Labels := Pipeline.Sig Λ₀ (Fin 0) fun p => (pcfgs (F := F) p).Adm
/-- The program's one SparseCore call, -/
abbrev K : SparseCore.Cfg τ sig (ΛP (F := F)) 1 := sc (F := F)
/-- and the kernels' body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and none of them a kernel's scratch. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The launch handshakes' rounds, beside the counters of the kernel's two copies. -/
abbrev UH : Type := URounds (GSem nD τ sig) ℕ
abbrev UU : Type := UH × Counters
abbrev EH : Emb UH (MT nD τ sig (HIx 1) (Elt F) ℕ UU ℕ) := embL

/-! ## The arrays -/

/-- `x` (which no thread touches), `attrs`, the gate vector and the scalar result, as the TensorCore holds them. -/
abbrev xLoc (d : Dev nD) : Loc nD τ sig := (SparseCore.T d).loc main_arg0
abbrev aLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_cst

end Cert.Proof.Gate

end
-- ==== Proof.Body.lean ====
/-
  The kernel's body on the sequencer that runs it. The body stages `attrs` into the scalar memory, clears a 64-word
  vector there word by word, stores 1/8 at the eight places computed from the two attribute words, and copies the vector
  out. Its side condition, that the eight places lie in the vector, follows from the attributes' range (`chk1`). The
  symbolic executor runs the body once; what the scalar vector then holds is a list of one-word stores, which reads as the
  gate vector of Gate.lean (`read_cleared` for the 64 zeros, `read_mark` once for each mark).
-/
module

public import proofs.«01_k».proof.Proof.Setup
public import Idealize.ShloMosaic.Lib.CellWrites

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "aW" => (Memref.whole Cert.KernelIdeal.main_arg1_scs : Memref Cert.KernelIdeal.sig Kind.scScalar Space.hbm Cert.KernelIdeal.S2 EltTy.i32)
local notation "oW" => (Memref.whole Cert.KernelIdeal.main_v0_scs : Memref Cert.KernelIdeal.sig Kind.scScalar Space.hbm Cert.KernelIdeal.S64 EltTy.f32)
local notation "sW" => (Memref.whole Cert.KernelIdeal.cc0_scratch0 : Memref Cert.KernelIdeal.sig Kind.scScalar Space.smem Cert.KernelIdeal.S2 EltTy.i32)
local notation "gW" => (Memref.whole Cert.KernelIdeal.cc0_scratch1 : Memref Cert.KernelIdeal.sig Kind.scScalar Space.smem Cert.KernelIdeal.S64 EltTy.f32)

variable (d : Dev nD)

/-- The grid point of SparseCore number `c` of the call. -/
def coordsS (c : Fin (grid0.bound 0)) : grid0.Coords := fun | 0 => c | ⟨_ + 1, h⟩ => absurd h (Nat.not_lt.2 (Nat.le_add_left _ _))

/-- SparseCore 0's sequencer. -/
abbrev seq (h : 0 < grid0.bound 0) : Thread nD τ := S d ((⟨0, h⟩ : Fin (grid0.bound 0)).castLE hcore0)

/-- A word of the staged `attrs`: what a load of word `k` reads from the scalar memory once `attrs` has landed there. -/
theorem staged_word (h : 0 < grid0.bound 0) (a : Buf (Elt F) (aLoc d)) (fs : Buf (Elt F) ((sW).view.loc (seq d h))) (k : Fin 2)
    (inb : ∀ i, (![k.val] : Fin 1 → Nat) i + S1.size i ≤ S2.size i) (hp : 0 < S1.numel) :
    View.readAt (Elt F) (sW).view (Rect.unit (s := S2) ![k.val] S1.size inb).toLoadRect
        (View.write (Elt F) (sW).view fs (ReadAs.same.apply (View.read (Elt F) (aW).view a)) Finset.univ) (Shape.Idx.first hp)
      = word a k := by
  rw [View.readAt_apply, View.read_write_univ]
  refine congrArg a (funext fun i => Fin.ext ?_)
  match i with
  | ⟨0, _⟩ => rfl

/-! ## The words that place the marks -/

/-- The place the kernel computes for mark `i`. -/
theorem off1_eq (a : S2.Idx → BitVec 32) (ha : InRange a) {w₀ w₁ : BitVec 32} (e₀ : w₀ = word a 0) (e₁ : w₁ = word a 1) {i : BitVec 32} {n : Nat}
    (hi : i.toNat = n) (hn : n < 8) : k0_off1 w₀ w₁ i 0 = hot a n := by
  subst e₀ e₁
  have h₀ := ha 0
  have h₁ := ha 1
  have hs := toNat_sum (toNat_prod (x := word a 0) (y := 8#32) rfl rfl (by simp; omega)) (y := word a 1) rfl (by simp; omega)
  have hr := toNat_rem64 .scalar hs (by simp; omega)
  have hr' := toNat_rem64 .scalar (toNat_sum hr hi (by omega)) (by omega)
  unfold hot
  show (IntOp.remsi .scalar _ 64#32).toNat = _
  refine hr'.trans ?_
  simp
  omega

/-- Every mark's place is in the vector. -/
theorem chk1 (a : S2.Idx → BitVec 32) (ha : InRange a) {w₀ w₁ : BitVec 32} (e₀ : w₀ = word a 0) (e₁ : w₁ = word a 1) : k0_chk1 w₀ w₁ := by
  intro r x
  have hx : x = 0 := Subsingleton.elim _ _
  subst hx
  rw [off1_eq a ha e₀ e₁ (n := r.val) (by rw [BitVec.toNat_ofNat]; omega) r.isLt]
  have := hot_lt a r.val
  show hot a r.val + 1 ≤ 64
  omega

/-! ## The vector in the scalar memory -/

/-- One more mark: the newest store of the list writes 1/8 at mark `n`'s place. -/
theorem read_mark (a : S2.Idx → BitVec 32) (f : (gW).view.ty.Contents (Elt F)) (n : Nat) {off : Fin 1 → Nat}
    (inb : ∀ x, off x + S1.size x ≤ S64.size x) (ho : off 0 = hot a n) (L : List (View.Piece (Elt F) S64 .f32))
    (hL : ∀ y, (gW).view.read (Elt F) ((gW).view.writes (Elt F) f L) y = gateUpTo a n y) (y : S64.Idx) :
    (gW).view.read (Elt F) ((gW).view.writes (Elt F) f
        ((⟨Rect.unit (s := S64) off S1.size inb, fun _ => (Scalar.ofBits .f32 0x3E000000#32 : F .f32)⟩ : View.Piece (Elt F) S64 .f32) :: L)) y
      = gateUpTo a (n + 1) y := by
  refine (View.read_writes_cons_cell (gW).view f inb _ L y).trans ?_
  rw [ho, hL]
  rfl

/-- The list of stores that clears the vector leaves the zero word at every place, whatever it held. -/
theorem read_cleared (a : S2.Idx → BitVec 32) (f : (gW).view.ty.Contents (Elt F)) (L : List (View.Piece (Elt F) S64 .f32))
    (hL : ∀ p ∈ L, ∀ x, p.2 x = (Scalar.ofBits .f32 0x00000000#32 : F .f32)) (hc : ∀ y : S64.Idx, ∃ p ∈ L, y ∈ p.1.set) (y : S64.Idx) :
    (gW).view.read (Elt F) ((gW).view.writes (Elt F) f L) y = gateUpTo a 0 y :=
  View.read_writes_apply_of_forall_of_mem (gW).view f (· = (Scalar.ofBits .f32 0x00000000#32 : F .f32)) y L hL (hc y)

/-- The body's run: `attrs` kept, the result at the gate vector, both scratch buffers at something, both semaphores back
at zero. -/
theorem seq_run (h : 0 < grid0.bound 0) (a : Buf (Elt F) (aLoc d)) (f : Buf (Elt F) (oLoc d))
    (fs : Buf (Elt F) ((sW).view.loc (seq d h))) (fg : Buf (Elt F) ((gW).view.loc (seq d h)))
    (ha : InRange a)
    (O : CellTallies nD τ sig (HIx 1)) (W : Waits sig (HIx 1)) :
    (iprop(Transfers.MayWaits (seq d h) (none : HIx 1) O
        ∗ ((aW).view.loc (seq d h) ↦{fullShare} a) ∗ ((oW).view.loc (seq d h) ↦{fullShare} f)
        ∗ ((sW).view.loc (seq d h) ↦{fullShare} fs) ∗ ((gW).view.loc (seq d h) ↦{fullShare} fg)
        ∗ semVal (seq d h, SemLoc.dma cc0_scratch2.sem) 0 ∗ semVal (seq d h, SemLoc.dma cc0_scoped0.sem) 0
        ∗ owes (seq d h) O W) : sProp 𝕄)
      ⊢ wp frame (wpE (defs₀ (F := F)) 𝒱₀ (seq d h) none) Set.univ
          (cc0__gate_sc (coordsS ⟨0, h⟩) aW (Memref.isWhole_whole _) oW (Memref.isWhole_whole _) sW (Memref.isWhole_whole _)
            gW (Memref.isWhole_whole _) cc0_scratch2 cc0_scoped0)
          fun _ => iprop(((aW).view.loc (seq d h) ↦{fullShare} a)
            ∗ ((oW).view.loc (seq d h) ↦{fullShare} (gate (F := F) a : Buf (Elt F) (oLoc d)))
            ∗ (∃ f, (sW).view.loc (seq d h) ↦{fullShare} f) ∗ (∃ f, (gW).view.loc (seq d h) ↦{fullShare} f)
            ∗ semVal (seq d h, SemLoc.dma cc0_scratch2.sem) 0 ∗ semVal (seq d h, SemLoc.dma cc0_scoped0.sem) 0
            ∗ ∃ W', owes (seq d h) O W') := by
  rw [cc0__gate_sc_eq_skeleton]; unfold cc0__gate_sc_skel
  iintro ⟨#Hmw, Ha, Ho, Hs, Hg, Hsem, Hsem', HO⟩
  sl_exec (disch := exact chk1 a ha (staged_word d h a fs 0 _ _) (staged_word d h a fs 1 _ _))
  have e : seq_run.sl.dma146 d h a fs ha = gate (F := F) a := by
    have ew₀ := staged_word d h a fs 0 (by decide) (by decide)
    have ew₁ := staged_word d h a fs 1 (by decide) (by decide)
    have hc : ∀ y, (gW).view.read (Elt F) ((gW).view.writes (Elt F) (gW).view.junk seq_run.sl.Hg_64) y = gateUpTo a 0 y := by
      refine read_cleared a _ _ ?_ ?_
      · unfold seq_run.sl.Hg_64
        simp only [List.forall_mem_cons, List.not_mem_nil, false_imp_iff, implies_true, and_true]
        unfold seq_run.sl.cst
        simp only [implies_true, and_self]
      · unfold seq_run.sl.Hg_64
        intro y
        have hy : (y 0).val < 64 := (y 0).isLt
        simp only [List.exists_mem_cons_iff, Rect.mem_set_cell, Matrix.cons_val_zero]
        omega
    funext y
    refine read_mark a _ 7 _ (off1_eq a ha ew₀ ew₁ rfl (by decide)) _ (fun y => ?_) y
    refine read_mark a _ 6 _ (off1_eq a ha ew₀ ew₁ rfl (by decide)) _ (fun y => ?_) y
    refine read_mark a _ 5 _ (off1_eq a ha ew₀ ew₁ rfl (by decide)) _ (fun y => ?_) y
    refine read_mark a _ 4 _ (off1_eq a ha ew₀ ew₁ rfl (by decide)) _ (fun y => ?_) y
    refine read_mark a _ 3 _ (off1_eq a ha ew₀ ew₁ rfl (by decide)) _ (fun y => ?_) y
    refine read_mark a _ 2 _ (off1_eq a ha ew₀ ew₁ rfl (by decide)) _ (fun y => ?_) y
    refine read_mark a _ 1 _ (off1_eq a ha ew₀ ew₁ rfl (by decide)) _ (fun y => ?_) y
    exact read_mark a _ 0 _ (off1_eq a ha ew₀ ew₁ rfl (by decide)) _ hc y
  have eo : View.write (Elt F) (oW).view f (seq_run.sl.dma146 d h a fs ha) Finset.univ = gate (F := F) a :=
    (View.write_whole_univ (Val := Elt F) main_v0_scs f _).trans e
  sl_step
  isplitl [Ha]; · iexact Ha
  isplitl [Ho]; · irw [← eo]; iexact Ho
  isplitl [Hs]; · iexists _; iexact Hs
  isplitl [Hg]; · iexists _; iexact Hg
  isplitl [Hsem]; · iexact Hsem
  isplitl [Hsem']; · iexact Hsem'
  iexists _; iexact HO

end Cert.Proof.Gate

end
-- ==== Proof.Launch.lean ====
/-
  The program's run. The call takes `attrs` and the result's array to SparseCore 0's sequencer, which runs the body of
  Body.lean over its two scratch buffers and two semaphores, and brings them back, the result at the gate vector; after it
  the host writes the scalar result, a zero. From there the launch theorem gives the statement over every execution: it
  ends, nothing faults, every semaphore is back at zero, the arguments are as they were, and the two results hold what
  `run_main` says. All of it is over any float values, under the one premise that the attributes are in range.
-/
module

public import proofs.«01_k».proof.Proof.Body

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ
local notation "aW" => (Memref.whole Cert.KernelIdeal.main_arg1_scs : Memref Cert.KernelIdeal.sig Kind.scScalar Space.hbm Cert.KernelIdeal.S2 EltTy.i32)
local notation "oW" => (Memref.whole Cert.KernelIdeal.main_v0_scs : Memref Cert.KernelIdeal.sig Kind.scScalar Space.hbm Cert.KernelIdeal.S64 EltTy.f32)
local notation "sW" => (Memref.whole Cert.KernelIdeal.cc0_scratch0 : Memref Cert.KernelIdeal.sig Kind.scScalar Space.smem Cert.KernelIdeal.S2 EltTy.i32)
local notation "gW" => (Memref.whole Cert.KernelIdeal.cc0_scratch1 : Memref Cert.KernelIdeal.sig Kind.scScalar Space.smem Cert.KernelIdeal.S64 EltTy.f32)

variable (m : (ℓ : Loc nD τ sig) → Buf (Elt F) ℓ) (ρ : Dev nD → PrngReg)

/-- The premise: on every device the attributes are in range. -/
abbrev Premise : Prop := ∀ d : Dev nD, InRange (m (aLoc d))

/-! ## What the call carries -/

/-- `attrs` as the launch found it, -/
abbrev aPts (d : Dev nD) : sProp 𝕄 := aLoc d ↦{fullShare} m (aLoc d)
/-- the result's array at some contents, -/
abbrev oPts (d : Dev nD) (f : Buf (Elt F) (oLoc d)) : sProp 𝕄 := oLoc d ↦{fullShare} f
/-- and the contents that it comes back with. -/
abbrev out (d : Dev nD) : Buf (Elt F) (oLoc d) := gate (F := F) (m (aLoc d))

/-- The call takes `attrs` and the result's array, and returns them with the result at the gate vector. -/
def P : (K (F := F)).Pay (nD := nD) (Val := Elt F) (Name := ℕ) (U := UU) where
  st := fun _ d _ => iprop(aPts m d ∗ ∃ f, oPts d f)
  dn := fun _ d _ => iprop(aPts m d ∗ oPts d (out m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own buffers and semaphores -/

section Sequencer

variable (d : Dev nD) (c : Fin τ.nSC)

abbrev sRef : DevRef τ sig := (Proc.scScalar c).devRef cc0_scratch0
abbrev gRef : DevRef τ sig := (Proc.scScalar c).devRef cc0_scratch1
abbrev sLoc : Loc nD τ sig := (S d c).loc cc0_scratch0
abbrev gLoc : Loc nD τ sig := (S d c).loc cc0_scratch1
abbrev inSem : GSem nD τ sig := (S d c, .dma cc0_scratch2.sem)
abbrev outSem : GSem nD τ sig := (S d c, .dma cc0_scoped0.sem)

theorem gRef_mem : gRef c ∈ (ownRefs (τ := τ) (.scScalar c)).erase (sRef c) :=
  Finset.mem_erase.mpr ⟨by
    intro h
    have := congrArg (fun b : DevRef τ sig => b.idx.val) h
    exact absurd this (by show ¬(1 = 0); decide), (mem_ownRefs (p := Proc.scScalar c) (b := gRef c)).mpr rfl⟩

/-- Among the buffers of the sequencer are the two scratch buffers. -/
theorem seqBufs : (ownBufs (S d c) : sProp 𝕄)
    = iprop((∃ f, sLoc d c ↦{fullShare} f) ∗ (∃ f, gLoc d c ↦{fullShare} f)
        ∗ bigSep (((ownRefs (τ := τ) (.scScalar c)).erase (sRef c)).erase (gRef c)) fun b => iprop(∃ f, ((d, b) : Loc nD τ sig) ↦{fullShare} f)) := by
  unfold SparseCore.Cfg.ownBufs
  refine (SparseCore.bigSep_erase' ((mem_ownRefs (p := Proc.scScalar c) (b := sRef c)).mpr rfl)).trans ?_
  rw [SparseCore.bigSep_erase' (gRef_mem c)]

theorem inSem_mem : inSem d c ∈ ownCells (S d c) :=
  mem_ownCells.mpr ⟨rfl, by show (SemLoc.dma cc0_scratch2.sem : SemLoc sig).isScoped .scScalar = true; decide⟩

theorem outSem_mem : outSem d c ∈ (ownCells (S d c)).erase (inSem d c) :=
  Finset.mem_erase.mpr ⟨by
    intro h
    have := congrArg (fun g : GSem nD τ sig => g.2) h
    exact absurd this (by show ¬((SemLoc.dma cc0_scoped0.sem : SemLoc sig) = SemLoc.dma cc0_scratch2.sem); decide),
    mem_ownCells.mpr ⟨rfl, by show (SemLoc.dma cc0_scoped0.sem : SemLoc sig).isScoped .scScalar = true; decide⟩⟩

/-- Among its semaphores are those of the two copies. -/
theorem seqSems : (ownSems0 (S d c) : sProp 𝕄)
    = iprop(semVal (inSem d c) 0 ∗ semVal (outSem d c) 0
        ∗ bigSep (((ownCells (S d c)).erase (inSem d c)).erase (outSem d c)) fun g => semVal g 0) := by
  unfold SparseCore.Cfg.ownSems0
  rw [SparseCore.bigSep_erase' (inSem_mem d c), SparseCore.bigSep_erase' (outSem_mem d c)]

theorem pts_a (f : Buf (Elt F) (aLoc d)) : ((aW).view.loc (S d c) ↦{fullShare} f : sProp 𝕄) = aLoc d ↦{fullShare} f := by
  simp only [Memref.view_whole, View.set_whole]
theorem pts_o (f : Buf (Elt F) (oLoc d)) : ((oW).view.loc (S d c) ↦{fullShare} f : sProp 𝕄) = oLoc d ↦{fullShare} f := by
  simp only [Memref.view_whole, View.set_whole]
theorem pts_s (f : Buf (Elt F) (sLoc d c)) : ((sW).view.loc (S d c) ↦{fullShare} f : sProp 𝕄) = sLoc d c ↦{fullShare} f := by
  simp only [Memref.view_whole, View.set_whole]
theorem pts_g (f : Buf (Elt F) (gLoc d c)) : ((gW).view.loc (S d c) ↦{fullShare} f : sProp 𝕄) = gLoc d c ↦{fullShare} f := by
  simp only [Memref.view_whole, View.set_whole]

end Sequencer

/-- The body in the form the launch theorem asks for: from what the call carries and all the sequencer has, to the same,
the result at the gate vector. -/
theorem seq_body (d : Dev nD) (ha : InRange (m (aLoc d))) (hF : (K (F := F)).Facts) (h : 0 < grid0.bound 0) (O : CellTallies nD τ sig (HIx 1))
    (W : Waits sig (HIx 1)) (hO : ∀ g, O g none = 0) :
    iprop(levAts (K (F := F)).L (K (F := F)).lev ∗ emp ∗ (aPts m d ∗ ∃ f, oPts d f)
        ∗ scopedBufs (seq d h) ∗ scopedSems0 (seq d h) ∗ owes (seq d h) O W)
      ⊢ wp frame (wpE (defs₀ (F := F)) 𝒱₀ (seq d h) none) Set.univ
          (cc0__gate_sc (coordsS ⟨0, h⟩) aW (Memref.isWhole_whole _) oW (Memref.isWhole_whole _) sW (Memref.isWhole_whole _)
            gW (Memref.isWhole_whole _) cc0_scratch2 cc0_scoped0)
          fun _ => iprop((aPts m d ∗ oPts d (out m d)) ∗ scopedBufs (seq d h) ∗ scopedSems0 (seq d h)
            ∗ ∃ W', ⌜∀ p ∈ W', p ∈ W ∨ p.2 = none ∨ p.2 = some (0 : Fin 1)⌝ ∗ owes (seq d h) O W') := by
  rw [(K (F := F)).scopedBufs_S hF d _, SparseCore.Cfg.scopedSems0_S (Val := Elt F) d _, seqSems, seqBufs]
  iintro ⟨#Hlv, -, ⟨Ha, %f, Ho⟩, ⟨⟨⟨%fs, Hs⟩, ⟨%fg, Hg⟩, Hbufs⟩, Htiles⟩, ⟨⟨Hi, Hu, Hsems⟩, Htsems⟩, HO⟩
  ihave Hmw := ((K (F := F)).mayWaits_none (thr := seq d h) hO) $$ Hlv
  ihave Ha := (Entails.of_eq (pts_a (F := F) d _ _).symm) $$ Ha
  ihave Ho := (Entails.of_eq (pts_o (F := F) d _ _).symm) $$ Ho
  ihave Hs := (Entails.of_eq (pts_s (F := F) d _ _).symm) $$ Hs
  ihave Hg := (Entails.of_eq (pts_g (F := F) d _ _).symm) $$ Hg
  iapply (wp_wand_r Idealize.ShloMosaic.frame (wpE (defs₀ (F := F)) 𝒱₀ (seq d h) none) Set.univ)
  isplitl [Ha Ho Hs Hg Hi Hu HO]
  · iapply (seq_run d h _ _ _ _ ha O W)
    isplitr; · iexact Hmw
    isplitl [Ha]; · iexact Ha
    isplitl [Ho]; · iexact Ho
    isplitl [Hs]; · iexact Hs
    isplitl [Hg]; · iexact Hg
    isplitl [Hi]; · iexact Hi
    isplitl [Hu]; · iexact Hu
    iexact HO
  iintro %_ ⟨Ha, Ho, ⟨%fs', Hs⟩, ⟨%fg', Hg⟩, Hi, Hu, %W', HO⟩
  isplitl [Ha Ho]
  · isplitl [Ha]; · iapply (Entails.of_eq (pts_a (F := F) d _ _)); iexact Ha
    iapply (Entails.of_eq (pts_o (F := F) d _ _)); iexact Ho
  isplitl [Hs Hg Hbufs Htiles]
  · isplitr [Htiles]
    · isplitl [Hs]; · iexists _; iapply (Entails.of_eq (pts_s (F := F) d _ _)); iexact Hs
      isplitl [Hg]; · iexists _; iapply (Entails.of_eq (pts_g (F := F) d _ _)); iexact Hg
      iexact Hbufs
    iexact Htiles
  isplitl [Hi Hu Hsems Htsems]
  · isplitr [Htsems]
    · isplitl [Hi]; · iexact Hi
      isplitl [Hu]; · iexact Hu
      iexact Hsems
    iexact Htsems
  iexists W'; isplitr
  · ipureintro; intro p _
    rcases p.2 with _ | q
    · exact .inr (.inl rfl)
    · exact .inr (.inr (congrArg some (Subsingleton.elim q 0)))
  · iexact HO

/-- The body table's entry for the call: on SparseCore 0 the kernel, over the arrays and the scratch it was given. -/
theorem table_entry (c : Fin τ.nSC) :
    defs₀ (F := F) (.scScalar c) 0 ()
      = SparseCore.onCore hcore0 (fun c => cc0__gate_sc (coordsS c) aW (Memref.isWhole_whole _) oW (Memref.isWhole_whole _)
          sW (Memref.isWhole_whole _) gW (Memref.isWhole_whole _) cc0_scratch2 cc0_scoped0) ⟨⟩ c := rfl

/-- The launch theorem's obligation for the call. -/
theorem call_obl (hm : Premise m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [table_entry]; simp only [SparseCore.onCore, hc, ↓reduceDIte]
  match c with
  | ⟨0, h⟩ => exact seq_body m d (hm d) facts h O W hO

/-! ## The launch's first resources: the handshakes, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (he _)
  rw [he, hx]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The host's program -/

abbrev xRef : DevRef τ sig := Proc.devRef .tc (main_arg0 : Ref sig .tc)
abbrev aRef : DevRef τ sig := Proc.devRef .tc (main_arg1 : Ref sig .tc)
abbrev oRef : DevRef τ sig := Proc.devRef .tc (main_v0 : Ref sig .tc)
abbrev zRef : DevRef τ sig := Proc.devRef .tc (main_cst : Ref sig .tc)

/-- The scalar result's value, and the operation that writes it. -/
abbrev zero : S_.Idx → F .f32 := constant S_ .f32 0x00000000#32
abbrev opZero : HloOp τ sig (Elt F) := StableHlo.nullary main_cst (constant S_ .f32 0x00000000#32)

theorem bufs_zero : (opZero (F := F)).bufs ⊆ {zRef} := show ({zRef} : Finset (DevRef τ sig)) ⊆ {zRef} from Finset.Subset.refl _

theorem held_zero (d : Dev nD) (W : Valuation τ sig (Elt F)) : (held (T d) {zRef} W : sProp 𝕄) = zLoc d ↦{fullShare} W zRef := by
  unfold held
  exact bigSep_singleton ..

/-- The host's four arrays. -/
theorem host_arrays (d : Dev nD) :
    (unscopedBufs d (fun b => m ((SparseCore.T d).loc b)) : sProp 𝕄)
      = iprop((xLoc d ↦{fullShare} m (xLoc d)) ∗ aPts m d ∗ oPts d (m (oLoc d)) ∗ zLoc d ↦{fullShare} m (zLoc d)) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

theorem st_eq (d : Dev nD) : (bigSep Finset.univ fun c : Fin ((K (F := F)).nCore 0) => (P m).st 0 d c) = iprop(aPts m d ∗ ∃ f, oPts d f) :=
  bigSep_univ_of_subsingleton (0 : Fin 1)
theorem dn_eq (d : Dev nD) : (bigSep Finset.univ fun c : Fin ((K (F := F)).nCore 0) => (P m).dn 0 d c) = iprop(aPts m d ∗ oPts d (out m d)) :=
  bigSep_univ_of_subsingleton (0 : Fin 1)

/-- What the host's program ends with: the arguments kept, both results at their values. -/
abbrev FIN (d : Dev nD) : sProp 𝕄 :=
  iprop((xLoc d ↦{fullShare} m (xLoc d)) ∗ aPts m d ∗ oPts d (out m d) ∗ zLoc d ↦{fullShare} (zero (F := F) : Buf (Elt F) (zLoc d)))

/-- The host's program: the call, then the write of the scalar result. -/
theorem host_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [host_arrays]
  simp only [main, wp_bind, wp_pure]
  iintro ⟨#Hctx, Hst, ⟨Hb, ⟨Hx, Ha, Ho, Hz⟩, Hts, -⟩, -⟩
  iapply ((K (F := F)).wp_run (D (F := F)) 𝒱 (EH := EH) (P := P m) κ d 0) $$ [Hst Hx Ha Ho Hz Hb Hts]
  isplitr; · iexact Hctx
  isplitl [Hst]; · iexact Hst
  isplitl [Ha Ho]
  · rw [st_eq]
    isplitl [Ha]; · iexact Ha
    iexists _; iexact Ho
  iintro ⟨Hst, Hdn⟩
  ihave Hdn := (Entails.of_eq (dn_eq m d)) $$ Hdn
  icases Hdn with ⟨Ha, Ho⟩
  iapply (wp_hlo_within 𝒱 (SparseCore.T d) none Set.univ (op := opZero) (S := {zRef}) bufs_zero (V := fun b => m (d, b))) $$ [Hb Hz]
  · isplitl [Hb]; · iexact Hb
    rw [held_zero]
    iexact Hz
  iintro ⟨Hb, Hz⟩
  ihave Hz := (Entails.of_eq (held_zero (F := F) d _)) $$ Hz
  rw [wp_ret]; imodintro; imodintro
  isplitl [Hst]; · iexact Hst
  isplitr [Hb Hts]
  · isplitl [Hx]; · iexact Hx
    isplitl [Ha]; · iexact Ha
    isplitl [Ho]; · iexact Ho
    iexact Hz
  isplitl [Hb] <;> iassumption

/-! ## The run -/

/-- What a device's memory is left with. -/
def fq (d : Dev nD) (s' : Phys nD τ sig (Elt F)) : Prop :=
  s'.mem.mem (oLoc d) = out m d ∧ s'.mem.mem (zLoc d) = (zero (F := F) : Buf (Elt F) (zLoc d))
    ∧ s'.mem.mem (xLoc d) = m (xLoc d) ∧ s'.mem.mem (aLoc d) = m (aLoc d)

/-- An array held whole at `f` holds `f` in memory. -/
theorem reads (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Hx, Ha, Ho, Hz⟩, HSI⟩
  ihave H := (persistent_entails_right (reads (oLoc d) _ s')) $$ [HSI Ho]
  · isplitl [Ho] <;> iassumption
  icases H with ⟨%ho, -, HSI⟩
  ihave H := (persistent_entails_right (reads (zLoc d) _ s')) $$ [HSI Hz]
  · isplitl [Hz] <;> iassumption
  icases H with ⟨%hz, -, HSI⟩
  ihave H := (persistent_entails_right (reads (xLoc d) _ s')) $$ [HSI Hx]
  · isplitl [Hx] <;> iassumption
  icases H with ⟨%hx, -, HSI⟩
  ihave H := (reads (aLoc d) _ s') $$ [HSI Ha]
  · isplitl [Ha] <;> iassumption
  icases H with %ha
  ipureintro; exact ⟨ho, hz, hx, ha⟩

/-- The final states: on every device the results at their values and the arguments kept, and no semaphore raised. -/
def QC : PUnit × MemSt nD τ sig (Elt F) → Prop := fun r =>
  (∀ d : Dev nD, r.2.mem (oLoc d) = out m d ∧ r.2.mem (zLoc d) = (zero (F := F) : Buf (Elt F) (zLoc d))
    ∧ r.2.mem (xLoc d) = m (xLoc d) ∧ r.2.mem (aLoc d) = m (aLoc d)) ∧ r.2.sem = fun _ => 0

/-- The program's run, over any float values. -/
theorem run_main [∀ e, Nonempty (Elt F e)] (hm : Premise m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => call_obl m hm)
    (fun q hq => match q with | 0 => nomatch hq)
    (fun q hq => match q with | 0 => nomatch hq)
    m ρ main (fun _ => iprop(emp)) (FIN m) (u₀ (F := F)) (sep_elim_left.trans (hu₀ m)) (host_run m ρ) (fq m) (hfin m) (QC m) (fun _ h hz => ⟨h, hz⟩)

end Cert.Proof.Gate

end
-- ==== Proof.Range.lean ====
/-
  The precondition read in numbers. The predicate compares each attribute word, signed, with 0 and with 8 and takes the
  conjunction over both; that it comes out 1 says that each word, read as a natural number, is below 8.
-/
module

public import proofs.«01_k».proof.Pre_attrs_in_range
public import proofs.«01_k».proof.Proof.Gen.Pre_attrs_in_range
public import proofs.«01_k».proof.Proof.Gate
public import Idealize.ShloMosaic.Lib.ReduceAll

@[expose] public section

noncomputable section

namespace Cert.Proof.Gate

open Idealize.ShloMosaic
open Cert.Pre_attrs_in_range Cert.Pre_attrs_in_range.Gen

instance : Subsingleton S_.Idx := ⟨fun _ _ => funext fun x => x.elim0⟩

theorem inRange_of_pre {F : FTy → Type} [FloatOps F] (x : FVec F S8192x4096 .f32) (a : IVec S2 32)
    (h : Cert.Pre_attrs_in_range.fn x a = fun _ => 1#1) : InRange a := by
  intro k
  obtain ⟨hge, hlt⟩ := IntOp.andi_eq_one.1 (congrFun h ValueIdx.ix0)
  have hge := IntOp.cmpi_sge.1 (Host.reduce_andi_all _ _ _ _ _ hge (ValueIdx.ix1 k))
  have hlt := IntOp.cmpi_slt.1 (Host.reduce_andi_all _ _ _ _ _ hlt (ValueIdx.ix1 k))
  have h0 : 0 ≤ (word a k).toInt := hge
  have h8 : (word a k).toInt < 8 := hlt
  rw [BitVec.toInt_eq_toNat_cond] at h0 h8
  split at h8 <;> omega

end Cert.Proof.Gate

end
-- ==== Proof.RefRun.lean ====
/-
  The reference's vector. It writes 1/8 into a vector of zeros eight times, once for each mark, by a scatter of one word
  whose place is computed by jnp's remainder and then wrapped if negative. With the attributes in range neither the
  remainder's sign fix nor the wrap changes anything, so the places are those of Gate.lean and each scatter adds one mark
  (`step_eq`). The eight of them in a row are the gate vector (`steps_eq`). All of it over any float values.
-/
module

public import proofs.«01_k».proof.Proof.Gate
public import proofs.«01_k».proof.Proof.Gen.ReferenceIdeal
public import proofs.«01_k».proof.Proof.Gen.ReferenceIdeal.Run
public import Idealize.ShloMosaic.Lib.Routing.OpsSet

@[expose] public section

noncomputable section

namespace Cert.Proof.Gate

open Idealize.ShloMosaic Idealize.ShloMosaic.ValueIdx
open Cert.ReferenceIdeal Cert.ReferenceIdeal.Gen

variable {F : FTy → Type} [FloatOps F]

/-! ## The place of a mark -/

/-- The reference's guarded divisor: 64, since 64 is not 0. -/
def divisor : IVec S_ 32 := select (cmpi .eq (id (constantI S_ 32 64#32)) (constantI S_ 32 0#32)) (constantI S_ 32 1#32) (id (constantI S_ 32 64#32))

/-- The truncated remainder that jnp's floor remainder starts from. -/
def rem (p : IVec S_ 32) (i : BitVec 32) : IVec S_ 32 := Host.remsi (addi p (constantI S_ 32 i)) divisor

/-- jnp's floor remainder: the divisor added where the signs differ. -/
def floorRem (p : IVec S_ 32) (i : BitVec 32) : IVec S_ 32 :=
  select (andi (cmpi .ne (cmpi .slt (rem p i) (constantI S_ 32 0#32)) (cmpi .slt divisor (constantI S_ 32 0#32)))
    (cmpi .ne (rem p i) (constantI S_ 32 0#32))) (addi (rem p i) divisor) (rem p i)

/-- The place of a mark: the remainder, counted from the end if it is negative. -/
def place (p : IVec S_ 32) (i : BitVec 32) : IVec S_ 32 :=
  select (cmpi .slt (floorRem p i) (constantI S_ 32 0#32)) (addi (floorRem p i) (constantI S_ 32 64#32)) (floorRem p i)

theorem divisor_eq (j : S_.Idx) : divisor j = 64#32 := by
  show Scalar.select (IntOp.cmpi .eq 64#32 0#32) 1#32 64#32 = 64#32
  decide

/-- The sign fix of a floor remainder of a word that is not negative by 64 leaves it. -/
theorem sign_fix (r t : BitVec 32) (h : r.toNat < 2 ^ 31) :
    Scalar.select (IntOp.andi (IntOp.cmpi .ne (IntOp.cmpi .slt r 0#32) (IntOp.cmpi .slt 64#32 0#32)) (IntOp.cmpi .ne r 0#32)) t r = r := by
  have e : IntOp.cmpi .slt r 0#32 = 0#1 := by
    rw [WordCmp.cmpi_slt_zero, decide_eq_false (by omega)]; rfl
  rw [e, show IntOp.cmpi .ne (0#1) (IntOp.cmpi .slt 64#32 0#32) = 0#1 by decide]
  exact WordCmp.select_of_eq_zero (BitVec.zero_and ..) _ _

/-- Places are computed without wrapping. -/
theorem place_toNat (p : IVec S_ 32) (i : BitVec 32) (j : S_.Idx) {n k : Nat} (hp : (p j).toNat = n) (hi : i.toNat = k) (h : n + k < 2 ^ 31) :
    (place p i j).toNat = (n + k) % 64 := by
  have hr : (rem p i j).toNat = (n + k) % 64 := by
    show (IntOp.remsi .host (p j + i) (divisor j)).toNat = _
    rw [divisor_eq]
    exact toNat_rem64 .host (toNat_sum hp hi (by omega)) h
  have hf : floorRem p i j = rem p i j := by
    show Scalar.select (IntOp.andi (IntOp.cmpi .ne (IntOp.cmpi .slt (rem p i j) 0#32) (IntOp.cmpi .slt (divisor j) 0#32))
      (IntOp.cmpi .ne (rem p i j) 0#32)) _ (rem p i j) = _
    rw [divisor_eq]
    exact sign_fix _ _ (by omega)
  have hw : place p i j = floorRem p i j := Routing.wrap_of_lt _ _ (by rw [hf]; omega)
  rw [hw, hf, hr]

/-- The expert the attributes name, as the reference computes it from the two words. -/
theorem combined_toNat (a : IVec S2 32) (ha : InRange a) (j : S_.Idx) :
    ((muli (addi (addi (constantI S_ 32 0#32) (muli (shapeCast _ (extractStridedSlice S1 ![0] a slices_S2_S1_0) shapeCasts_S1_S_) (constantI S_ 32 8#32)))
        (muli (shapeCast _ (extractStridedSlice S1 ![1] a slices_S2_S1_1) shapeCasts_S1_S_) (constantI S_ 32 1#32))) (constantI S_ 32 1#32) : IVec S_ 32) j).toNat
      = 8 * (word a 0).toNat + (word a 1).toNat := by
  have h₀ := ha 0
  have h₁ := ha 1
  have e : ∀ (k : Fin 2) (hs : S2.Slices ![k.val] S1), (shapeCast S_ (extractStridedSlice S1 ![k.val] a hs) shapeCasts_S1_S_ : IVec S_ 32) j = word a k := by
    intro k hs
    unfold shapeCast extractStridedSlice
    refine congrArg a (funext fun x => Fin.ext ?_)
    match x with
    | ⟨0, _⟩ =>
      have hz : ((Shape.reshapeEquiv shapeCasts_S1_S_) j 0).val < 1 := ((Shape.reshapeEquiv shapeCasts_S1_S_) j 0).isLt
      show k.val + ((Shape.reshapeEquiv shapeCasts_S1_S_) j 0).val = k.val
      omega
  show ((0#32 + (shapeCast S_ (extractStridedSlice S1 ![0] a slices_S2_S1_0) shapeCasts_S1_S_ : IVec S_ 32) j * 8#32
    + (shapeCast S_ (extractStridedSlice S1 ![1] a slices_S2_S1_1) shapeCasts_S1_S_ : IVec S_ 32) j * 1#32) * 1#32).toNat = _
  rw [show (shapeCast S_ (extractStridedSlice S1 ![0] a slices_S2_S1_0) shapeCasts_S1_S_ : IVec S_ 32) j = word a 0 from e 0 _,
    show (shapeCast S_ (extractStridedSlice S1 ![1] a slices_S2_S1_1) shapeCasts_S1_S_ : IVec S_ 32) j = word a 1 from e 1 _,
    BitVec.mul_one, BitVec.mul_one, BitVec.zero_add, toNat_sum (toNat_prod rfl rfl (by simp; omega)) rfl (by simp; omega)]
  simp
  omega

/-! ## One scatter -/

/-- A scatter of one word that lands at `n` writes there and nowhere else. -/
theorem scatter_one {α : Type} (x : S64.Idx → α) (idx : IVec S1 32) (v : α) {n : Nat} (hn : ∀ j, (idx j).toNat = n) (h : n < 64) (y : S64.Idx) :
    Host.scatter scatter_S64_S1_S__n_0_0_0 (fun _ b => b) x idx (fun _ => v) y = if (y 0).val = n then v else x y := by
  have key : ∀ k, (scatter_S64_S1_S__n_0_0_0).resultIdx? k idx = some y ↔ (y 0).val = n := by
    intro k
    rw [eq_ix1 y]
    refine (Routing.resultIdx?_ix1 scatter_S64_S1_S__n_0_0_0 k idx (y 0)).trans ?_
    have hw : (scatter_S64_S1_S__n_0_0_0).window k 0 = 0 := rfl
    have hs : (scatter_S64_S1_S__n_0_0_0).start k idx 0 = n := by
      unfold ScatterDims.start
      rw [dif_pos (show (0 : Fin S64.rank) ∈ (scatter_S64_S1_S__n_0_0_0).scatterDimsToOperandDims by decide), BitVec.toInt_eq_toNat_of_lt (by rw [hn]; omega), hn]
    rw [hw, hs]
    show (n : Int) + (0 : Nat) = ((y 0).val : Int) ↔ (y 0).val = n
    omega
  split
  · next e => exact Routing.scatter_set_hit _ _ _ _ _ _ (fun _ _ => rfl) ix0 ((key _).2 e)
  · next e => exact Routing.scatter_set_miss _ _ _ _ _ fun k hk => e ((key k).1 hk)

/-- The reference's step `i`: one more mark. -/
def step (p : IVec S_ 32) (i : BitVec 32) (x : S64.Idx → F .f32) : S64.Idx → F .f32 :=
  Host.scatter scatter_S64_S1_S__n_0_0_0 (fun _ b => b) x (broadcastInDim S1 ![] bcast_S_S1 (place p i)) (constant S_ .f32 0x3E000000#32)

theorem step_eq (a : IVec S2 32) (p : IVec S_ 32) (hp : ∀ j, (p j).toNat = 8 * (word a 0).toNat + (word a 1).toNat) (ha : InRange a)
    {i : BitVec 32} {n : Nat} (hi : i.toNat = n) (hn : n < 8) (x : S64.Idx → F .f32) (hx : x = gateUpTo a n) : step p i x = gateUpTo a (n + 1) := by
  have h₀ := ha 0
  have h₁ := ha 1
  subst hx
  funext y
  exact scatter_one _ _ _ (fun j => place_toNat p i _ (hp _) hi (by omega)) (Nat.mod_lt _ (by decide)) y

/-- The eight steps on a vector of zeros give the gate vector. -/
theorem steps_eq (a : IVec S2 32) (p : IVec S_ 32) (hp : ∀ j, (p j).toNat = 8 * (word a 0).toNat + (word a 1).toNat) (ha : InRange a) :
    step p 7#32 (step p 6#32 (step p 5#32 (step p 4#32 (step p 3#32 (step p 2#32 (step p 1#32 (step p 0#32
      (broadcastInDim S64 ![] bcast_S_S64 (constant S_ .f32 0x00000000#32)))))))))
      = gate (F := F) a :=
  step_eq a p hp ha rfl (by decide) _ <| step_eq a p hp ha rfl (by decide) _ <| step_eq a p hp ha rfl (by decide) _ <|
    step_eq a p hp ha rfl (by decide) _ <| step_eq a p hp ha rfl (by decide) _ <| step_eq a p hp ha rfl (by decide) _ <|
    step_eq a p hp ha rfl (by decide) _ <| step_eq a p hp ha rfl (by decide) _ rfl

/-! ## The run -/

/-- The reference's run: it ends, its arguments kept, its scalar result zero, and, the attributes being in range, its vector
the gate vector. -/
theorem reference_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (InRange (m (c.tc.loc main_arg1)) → r.2.mem (c.tc.loc main_v65) = gate (F := F) (m (c.tc.loc main_arg1)))
      ∧ r.2.mem (c.tc.loc main_cst_43) = constant S_ .f32 0x00000000#32
      ∧ r.2.mem (c.tc.loc main_arg0) = m (c.tc.loc main_arg0) ∧ r.2.mem (c.tc.loc main_arg1) = m (c.tc.loc main_arg1) :=
  (θ_run defs _ _).mono (fun _ h c => ⟨fun ha => (h c).1.trans
    (steps_eq (m (c.tc.loc main_arg1)) (Value.res_main_v8 (StableHlo.launchContents m c)) (fun j => combined_toNat (m (c.tc.loc main_arg1)) ha j) ha),
    (h c).2.1, (h c).2.2.1, (h c).2.2.2⟩) (Value.run m ρ)

end Cert.Proof.Gate

end
-- ==== Proof.lean ====
/-
  The proof of `Cert.Claim`. The kernel is run once, over any float values (Proof/Launch.lean), and the reference once
  (Proof/RefRun.lean); each claim below reads one of the two runs, or both, at the float values that it names. Both runs
  end with the gate vector of Proof/Gate.lean and with a zero, provided that the attributes are in range, which the
  precondition says (Proof/Range.lean). The idealization rewrote nothing, so the kernel and its idealization are one text.
-/
module

public import proofs.«01_k».proof.Defs
public import proofs.«01_k».proof.Proof.Launch
public import proofs.«01_k».proof.Proof.Range
public import proofs.«01_k».proof.Proof.RefRun
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_attrs_in_range
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Reference.Facts := Cert.Reference.Gen.facts
instance : Cert.Pre_attrs_in_range.Facts := Cert.Pre_attrs_in_range.Gen.facts

/-- The precondition, at the extended reals, puts every device's attributes in range. -/
theorem premise_ideal (m : (ℓ : Loc Cert.KernelIdeal.nD Cert.KernelIdeal.τ Cert.KernelIdeal.sig) → Buf (Elt Ideal) ℓ) (h : Cert.Pre_KernelIdeal m) :
    Gate.Premise (F := Ideal) m := fun d => Gate.inRange_of_pre _ _ (h d)

/-- The precondition, at the machine's floats, puts every device's attributes in range. -/
theorem premise_bits (m : (ℓ : Loc Cert.Kernel.nD Cert.Kernel.τ Cert.Kernel.sig) → Buf (Elt Bits) ℓ) (h : Cert.Pre_Kernel m) :
    Gate.Premise (F := Bits) m := fun d => Gate.inRange_of_pre _ _ (h d)

/-! ## The frames -/

/-- The kernel ends, keeps its arguments and leaves every counter at zero. -/
theorem frame_kernel : Cert.quiescent_Kernel := fun m ρ h =>
  (θ_run Cert.KernelIdeal.defs _ _).mono (fun _ r => ⟨fun c => (r.1 c).2.2, r.2⟩) (Gate.run_main (F := Bits) m ρ (premise_bits m h))

/-- The idealized kernel likewise. -/
theorem frame_kernelIdeal : Cert.quiescent_KernelIdeal := fun m ρ h =>
  (θ_run Cert.KernelIdeal.defs _ _).mono (fun _ r => ⟨fun c => (r.1 c).2.2, r.2⟩) (Gate.run_main (F := Ideal) m ρ (premise_ideal m h))

/-- The idealized reference ends and keeps its arguments, whatever the attributes; it has no semaphores. -/
theorem frame_referenceIdeal : Cert.quiescent_ReferenceIdeal := fun m ρ _ =>
  (θ_run Cert.ReferenceIdeal.defs _ _).mono (fun r h => ⟨fun c => (h c).2.2, sem_eq_zero_of_no_sems (by decide) r.2⟩) (Gate.reference_run (F := Ideal) m ρ)

/-- The reference likewise. -/
theorem frame_reference : Cert.quiescent_Reference := fun m ρ _ =>
  (θ_run Cert.ReferenceIdeal.defs _ _).mono (fun r h => ⟨fun c => (h c).2.2, sem_eq_zero_of_no_sems (by decide) r.2⟩) (Gate.reference_run (F := Bits) m ρ)

/-! ## The values -/

/-- From memories that agree on the arguments, both runs end with the gate vector of the attributes and a zero. -/
theorem algebraic : Cert.algebraic_KernelIdeal_ReferenceIdeal := by
  intro m ρ m' ρ' h hag
  have hm := premise_ideal m h
  refine ⟨fun c => Gate.out (F := Ideal) m c, fun c => Gate.zero (F := Ideal),
    (θ_run Cert.KernelIdeal.defs _ _).mono (fun _ r => r.1) (Gate.run_main (F := Ideal) m ρ hm),
    (θ_run Cert.ReferenceIdeal.defs _ _).mono (fun _ r c => ⟨?_, (r c).2⟩) (Gate.reference_run (F := Ideal) m' ρ')⟩
  have e := (hag c).2
  exact ((r c).1 (by rw [e]; exact hm c)).trans (congrArg (Gate.gate (F := Ideal)) e)

/-- The same at the machine's floats. -/
theorem bitexact : Cert.bitexact_Kernel_Reference := by
  intro m ρ m' ρ' h hag
  have hm := premise_bits m h
  refine ⟨fun c => Gate.out (F := Bits) m c, fun c => Gate.zero (F := Bits),
    (θ_run Cert.KernelIdeal.defs _ _).mono (fun _ r => r.1) (Gate.run_main (F := Bits) m ρ hm),
    (θ_run Cert.ReferenceIdeal.defs _ _).mono (fun _ r c => ⟨?_, (r c).2⟩) (Gate.reference_run (F := Bits) m' ρ')⟩
  have e := (hag c).2
  exact ((r c).1 (by rw [e]; exact hm c)).trans (congrArg (Gate.gate (F := Bits)) e)

/-- All the claims together. -/
theorem claim : Cert.Claim :=
  ⟨Cert.Kernel.Gen.facts, Cert.KernelIdeal.Gen.facts, Cert.ReferenceIdeal.Gen.facts, Cert.Reference.Gen.facts, Cert.Pre_attrs_in_range.Gen.facts,
    frame_kernel, frame_kernelIdeal, frame_referenceIdeal, fun m ρ _ => frame_referenceIdeal m ρ trivial, frame_reference,
    fun m ρ _ => frame_reference m ρ trivial, trivial, algebraic, bitexact⟩

end Cert.Proof

end
